-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S32768x2048 : Shape := ⟨2, ![32768, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S1x1, .f32⟩
  | .hbm, ⟨3, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference.lean ====
abbrev S32768x2048 : Shape := ⟨2, ![32768, 2048]⟩
abbrev S32768x1024 : Shape := ⟨2, ![32768, 1024]⟩
abbrev S32768x1 : Shape := ⟨2, ![32768, 1]⟩
abbrev S1x1 : Shape := ⟨2, ![1, 1]⟩
abbrev S256x2048 : Shape := ⟨2, ![256, 2048]⟩
abbrev S256x1 : Shape := ⟨2, ![256, 1]⟩
abbrev S256 : Shape := ⟨1, ![256]⟩
abbrev S256x1024 : Shape := ⟨2, ![256, 1024]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 14
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x2048, .f32⟩
  | .hbm, ⟨3, _⟩ => ⟨S32768x1024, .f32⟩
  | .hbm, ⟨4, _⟩ => ⟨S32768x1024, .i32⟩
  | .hbm, ⟨5, _⟩ => ⟨S32768x1, .f32⟩
  | .hbm, ⟨6, _⟩ => ⟨S32768x1, .i32⟩
  | .hbm, ⟨7, _⟩ => ⟨S32768x2048, .f32⟩
  | .hbm, ⟨8, _⟩ => ⟨S32768x1024, .f32⟩
  | .hbm, ⟨9, _⟩ => ⟨S32768x1024, .i32⟩
  | .hbm, ⟨10, _⟩ => ⟨S32768x1, .f32⟩
  | .hbm, ⟨11, _⟩ => ⟨S32768x1, .i32⟩
  | .hbm, ⟨12, _⟩ => ⟨S1x1, .f32⟩
  | .hbm, ⟨13, _⟩ => ⟨S_, .f32⟩
  | .local _ .vmem, ⟨0, _⟩ => ⟨S32768x2048, .f32⟩
  | .local _ .vmem, ⟨1, _⟩ => ⟨S32768x2048, .f32⟩
  | .local _ .vmem, ⟨2, _⟩ => ⟨S32768x1, .i32⟩
  | .local _ .vmem, ⟨3, _⟩ => ⟨S32768x1, .i32⟩
  | .local _ .vmem, ⟨4, _⟩ => ⟨S1x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values_0 : Ref sig .tc := ⟨.hbm, 8, rfl⟩
abbrev main_indices_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c128_i32 : BitVec 32 := 128#32
  let v1 : BitVec 32 := Scalar.addi c0_i32 c128_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  v8
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v10 : Index := Scalar.indexCast v9
  let c0_4 : Index := 0#32
  ![v10.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v14 : Index := Scalar.indexCast v9
  let c0_6 : Index := 0#32
  ![v14.toNat, 0]
@[reducible] def k0_t2_loop : Scf.Loop 32 :=
  let c0_i32_13 : BitVec 32 := 0#32
  let c10_i32 : BitVec 32 := 10#32
  let v32 : BitVec 32 := Scalar.addi c0_i32_13 c10_i32
  let c1_i32_14 : BitVec 32 := 1#32
  ⟨c0_i32_13, v32, c1_i32_14⟩
@[reducible] def k0_t3_loop : Scf.Loop 32 :=
  let c0_i32_23 : BitVec 32 := 0#32
  let c10_i32_24 : BitVec 32 := 10#32
  let v55 : BitVec 32 := Scalar.addi c0_i32_23 c10_i32_24
  let c1_i32_25 : BitVec 32 := 1#32
  ⟨c0_i32_23, v55, c1_i32_25⟩
abbrev stage0_0 : Fin 1 → Memref sig .tc .vmem S32768x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Search.lean ====
module

public import proofs.«01_k».proof.Proof.Gen.Kernel.Skeleton
public import proofs.«01_k».proof.Proof.Gen.Reference.Skeleton

/-!
# The search for a lower bound of the `k`-th largest word

Both programs run ten steps of the same search over the 256 rows of a block. They differ in how a
row's words are counted: the kernel adds up ones as floats, the reference adds them up as integers
and converts the sum. Everything here is stated over the way of counting.
-/

@[expose] public section

namespace Cert.Search

open Idealize.ShloMosaic Idealize.ShloMosaic.TcCoe Idealize.SL.Sem
open Cert.Reference Cert.Reference.Gen

variable {F : FTy → Type} [BitOps F]

/-- The words of a block's magnitudes. -/
abbrev Words : Type := IVec S256x2048 32

/-- The search's state, row by row: the next guess, the lower word and its count, the upper word
and its count. -/
abbrev State (F : FTy → Type) : Type :=
  IVec S256x1 32 × IVec S256x1 32 × FVec F S256x1 .f32 × IVec S256x1 32 × FVec F S256x1 .f32

/-- The guess, kept strictly between the two bounds. -/
noncomputable def clipped (st : State F) : IVec S256x1 32 := k0_pay10 st.1 st.2.1 st.2.2.2.1

/-- Which words of a block reach their row's bound. -/
noncomputable def reach (mag : Words) (g : IVec S256x1 32) : IVec S256x2048 1 :=
  cmpi .sge mag (broadcastTo S256x2048 g broadcasts_S256x1_S256x2048)

/-- How many words of each row reach the bound, added up as integers, then converted. -/
noncomputable def countInt (mag : Words) (g : IVec S256x1 32) : FVec F S256x1 .f32 :=
  sitofp .f32 (shapeCast S256x1
    (multiReductionI .add [1] S256 (extui 32 (reach mag g) natLt_1_32) 0#32 reduces_S256x2048_S256 rfl)
    shapeCasts_S256_S256x1)

/-- How many words of each row reach the bound, added up as floats. -/
noncomputable def countFloat (mag : Words) (g : IVec S256x1 32) : FVec F S256x1 .f32 :=
  shapeCast S256x1
    (multiReduction .add [1] S256 (sitofp .f32 (extui 32 (reach mag g) natLt_1_32)) 0x00000000#32
      reduces_S256x2048_S256 (.inl rfl) rfl)
    shapeCasts_S256_S256x1

/-- A float constant in every row. -/
noncomputable def cst (b : BitVec 32) : FVec F S256x1 .f32 := broadcast S256x1 (Scalar.ofBits (F := F) .f32 b)

/-- Whether a count is at least `k = 1024`. -/
noncomputable def enough (n : FVec F S256x1 .f32) : IVec S256x1 1 := cmpf .oge n (cst 0x44800000#32)

/-- A count moved halfway to `k`: what an end that stays put is charged. -/
noncomputable def halfway (n : FVec F S256x1 .f32) : FVec F S256x1 .f32 :=
  addf (cst 0x44800000#32) (mulf (subf n (cst 0x44800000#32)) (cst 0x3F000000#32))

/-- The next guess, by the rule of false position. -/
noncomputable def guess (lo : IVec S256x1 32) (nlo : FVec F S256x1 .f32) (hi : IVec S256x1 32)
    (nhi : FVec F S256x1 .f32) : IVec S256x1 32 :=
  addi lo (fptosi 32 (mulf
    (divf (subf nlo (cst 0x44800000#32)) (maximumf (subf nlo nhi) (cst 0x3A83126F#32)))
    (sitofp .f32 (subi hi lo))))

/-- The state after a guess `g` counted `n`. -/
noncomputable def update (st : State F) (g : IVec S256x1 32) (n : FVec F S256x1 .f32) : State F :=
  let lo := select (enough n) g st.2.1
  let nlo := select (enough n) n (halfway st.2.2.1)
  let hi := select (enough n) st.2.2.2.1 g
  let nhi := select (enough n) (halfway st.2.2.2.2) n
  (guess lo nlo hi nhi, lo, nlo, hi, nhi)

/-- One step of the search. -/
noncomputable def step (count : Words → IVec S256x1 32 → FVec F S256x1 .f32) (mag : Words) (st : State F) :
    State F :=
  update st (clipped st) (count mag (clipped st))

/-- The state the search starts from. -/
noncomputable def start (g : IVec S256x1 32) : State F :=
  (g, k0_pay6, k0_pay7, k0_pay8, k0_pay9)

/-- `n` steps of the search. -/
noncomputable def steps (count : Words → IVec S256x1 32 → FVec F S256x1 .f32) (mag : Words)
    (g : IVec S256x1 32) : Nat → State F
  | 0 => start g
  | n + 1 => step count mag (steps count mag g n)

end Cert.Search
-- ==== Proof.Block.lean ====
module

public import proofs.«01_k».proof.Proof.Search

/-!
# What one block of rows adds to the sum

The sum over a block's rows of the two cosine similarities, from the block's rows of both arguments,
from which entries get noise, and from the word the generator is seeded with beside 12345.
-/

@[expose] public section

namespace Cert.Block

open Idealize.ShloMosaic Idealize.ShloMosaic.TcCoe Idealize.SL.Sem
open Cert.Reference Cert.Reference.Gen Cert.Search

variable {F : FTy → Type} [BitOps F]

/-- The generator's register after it is seeded with 12345 and `w` and has given `n` tiles. -/
def register (w : BitVec 32) (n : Nat) : PrngReg :=
  ⟨[12345#32, w].map fun v => v.toNat.toUInt32, n⟩

/-- How many tiles one draw takes. -/
abbrev tiles : Nat := S256x1024.prngTiles rank2_S256x1024

/-- The words of one draw, from where the register stands. -/
def draw (r : PrngReg) : IVec S256x1024 32 :=
  prngBits S256x1024 rank2_S256x1024 fun j => prngStream r.seed (r.seen + j)

/-- The rows of the first argument with their noise, from the first two draws. -/
noncomputable def noisyFirst (s : Vec F S256x2048 .f32) (m : IVec S256x2048 1) (a b : IVec S256x1024 32) :
    FVec F S256x2048 .f32 :=
  let turn := k0_pay36 (F := F) b
  k0_pay47 s m (k0_pay42 (k0_pay38 (F := F) a) (k0_pay39 (F := F) a) (k0_pay40 (F := F) a) k0_pay41)
    (k0_pay43 turn) (k0_pay44 turn) (k0_pay45 turn) (k0_pay46 turn)

/-- The noise of the second argument's rows, from the last two draws. -/
noncomputable def noiseSecond (a b : IVec S256x1024 32) : FVec F S256x2048 .f32 :=
  k0_pay53 (k0_pay51 (k0_pay49 b) k0_pay50) (k0_pay52 (k0_pay48 a)) (Scalar.ofBits .f32 0x3C23D70A#32)

/-- What one block adds: the sum of its rows' cosine similarities, without and with noise. -/
noncomputable def term (w : BitVec 32) (s t : Vec F S256x2048 .f32) (ms mt : IVec S256x2048 1) : F .f32 :=
  k0_pay54 s t mt
    (noisyFirst s ms (draw (register w 0)) (draw (register w (Nat.add 0 tiles))))
    (noiseSecond (draw (register w (Nat.add (Nat.add 0 tiles) tiles)))
      (draw (register w (Nat.add (Nat.add (Nat.add 0 tiles) tiles) tiles))))

/-- The entries of the first argument's rows that the search lets in. -/
noncomputable def inFirst (count : Words → IVec S256x1 32 → FVec F S256x1 .f32) (s : Vec F S256x2048 .f32) :
    IVec S256x2048 1 :=
  reach (k0_pay4 s) (steps count (k0_pay4 s) (k0_pay5 s) 10).2.1

/-- What one block adds, with noise where the search says. -/
noncomputable def added (count : Words → IVec S256x1 32 → FVec F S256x1 .f32) (w : BitVec 32)
    (s t : Vec F S256x2048 .f32) : F .f32 :=
  term w s t (inFirst count s) (inFirst count t)

/-! ## The whole sum -/

theorem slices_rows (n : Nat) (h : n < 128) : S32768x2048.Slices ![256 * n, 0] S256x2048 :=
  ⟨rfl, fun a => match a with
    | ⟨0, _⟩ => show 256 * n + 256 ≤ 32768 by omega
    | ⟨1, _⟩ => show 0 + 2048 ≤ 2048 by omega⟩

/-- Rows `256 n … 256 n + 255` of an argument. -/
def rows (x : Vec F S32768x2048 .f32) (n : Nat) (h : n < 128) : Vec F S256x2048 .f32 :=
  extractStridedSlice S256x2048 ![256 * n, 0] x (slices_rows n h)

/-- An accumulator with a block's term added. -/
noncomputable def plus (acc : Vec F S1x1 .f32) (x : F .f32) : Vec F S1x1 .f32 :=
  addf acc (broadcast S1x1 x)

/-- The sum of the first `n` blocks' terms, from zero, in order. -/
noncomputable def total (count : Words → IVec S256x1 32 → FVec F S256x1 .f32) (x y : Vec F S32768x2048 .f32) :
    (n : Nat) → n ≤ 128 → Vec F S1x1 .f32
  | 0, _ => broadcast S1x1 (Scalar.ofBits .f32 0x00000000#32)
  | n + 1, h => plus (total count x y n (Nat.le_of_succ_le h))
      (added count (BitVec.ofNat 32 n) (rows x n h) (rows y n h))

/-- The loss: one less the scaled sum of all 128 blocks' terms. -/
noncomputable def loss (count : Words → IVec S256x1 32 → FVec F S256x1 .f32) (x y : Vec F S32768x2048 .f32) :
    Vec F S1x1 .f32 :=
  k0_pay3 (total count x y 128 le_rfl)

end Cert.Block
-- ==== Proof.KernelValue.lean ====
module

public import proofs.«01_k».proof.Proof.Block
public import proofs.«01_k».proof.Proof.Gen.Kernel.Frame
public import Idealize.ShloMosaic.Lib.Pipeline.Value
public import Idealize.ShloMosaic.Lib.Tactic

/-!
# What the kernel leaves in its result

Each grid point adds its block's term to the accumulator; the first point starts it at zero, the last
one scales it.
-/

@[expose] public section

namespace Cert.Kernel.Value

open Idealize.ShloMosaic Idealize.ShloMosaic.TcCoe Idealize.SL.Sem
open Cert.Kernel Cert.Kernel.Gen
open Idealize.ShloMosaic.Pipeline (Dat)
open Cert.Block (plus total rows loss)

variable {F : FTy → Type} [BitOps F]

theorem hz : (![0, 0] : Fin 2 → Nat) = fun _ => 0 := funext fun a => by fin_cases a <;> rfl

/-- The word that a grid point seeds the generator with. -/
abbrev seedWord (i : grid0.Coords) : BitVec 32 := BitVec.ofNat 32 (i 0)

section
variable (c : Dev nD) (i : grid0.Coords)
    (a1 : Memref sig .tc .vmem S256x2048 .f32) (h1 : a1.IsWhole)
    (a2 : Memref sig .tc .vmem S256x2048 .f32) (h2 : a2.IsWhole)
    (a3 : Memref sig .tc .vmem S1x1 .f32) (h3 : a3.IsWhole)
    (x0 x1 : Vec F S256x2048 .f32) (xo2 : Vec F S1x1 .f32) (g : PrngReg)

/-- A load of the whole of a block's buffer. -/
noncomputable abbrev load (a : Memref sig .tc .vmem S256x2048 .f32) (h : a.IsWhole) (x : Vec F S256x2048 .f32) :
    Vec F S256x2048 .f32 :=
  View.readAt (Elt F) a.view (Rect.unit ![0, 0] S256x2048.size inb_S256x2048_S256x2048_0_0).toLoadRect (h.unread x)

/-- A load of the whole of the accumulator. -/
noncomputable abbrev loadAcc (a : Memref sig .tc .vmem S1x1 .f32) (h : a.IsWhole) (x : Vec F S1x1 .f32) : Vec F S1x1 .f32 :=
  View.readAt (Elt F) a.view (Rect.unit ![0, 0] S1x1.size inb_S1x1_S1x1_0_0).toLoadRect (h.unread x)

omit [BitOps F] in
theorem load_eq : load a1 h1 x0 = x0 := by
  unfold load
  rw [View.readAt_eq_ld, h1.read_unread]
  exact View.ld_unit_zero (S := S256x2048) hz _ x0

omit [BitOps F] in
theorem loadAcc_eq : loadAcc a3 h3 xo2 = xo2 := by
  unfold loadAcc
  rw [View.readAt_eq_ld, h3.read_unread]
  exact View.ld_unit_zero (S := S1x1) hz _ xo2

/-- A recast of the accumulator to its own shape changes nothing. -/
theorem plus_cast (x : F .f32) (h : S1x1.ShapeCasts S1x1) : plus (shapeCast S1x1 xo2 h) x = plus xo2 x :=
  congrArg (plus · x) (shapeCast_self xo2 h)

/-- A point that is neither the first nor the last adds its block's term. -/
theorem out_B (hc0 : ¬cond0_0 i) (hc1 : ¬cond0_1 i) :
    out0_B_2 c i a1 h1 a2 h2 a3 h3 hc0 hc1 x0 x1 xo2 g =
      plus xo2 (Block.added Search.countFloat (seedWord i) x0 x1) := by
  unfold out0_B_2
  rw [View.read_writes_eq_canon _ _ _ (cover0_B_2 c i a1 h1 a2 h2 a3 h3 hc0 hc1 x0 x1 xo2 g)]
  unfold kernelRun0_B
  dsimp only
  rw [View.canon_unit_zero hz]
  trans plus (shapeCast S1x1 (loadAcc a3 h3 xo2) shapeCasts_S1x1_S1x1)
    (Block.added Search.countFloat (seedWord i) (load a1 h1 x0) (load a2 h2 x1))
  · sl_kernel_rfl
  · rw [load_eq, load_eq, loadAcc_eq, plus_cast]

/-- The zero that the first point stores before it adds. -/
noncomputable def zero : Vec F S1x1 .f32 := broadcast S1x1 (Scalar.ofBits .f32 0x00000000#32)

/-- The zero that the first point stores, read back. -/
theorem readBack_A : kernelRun0_A.sl.v1099 (F := F) c a3 = zero := by
  unfold kernelRun0_A.sl.v1099 kernelRun0_A.sl.H2_1
  exact View.readCov_unit_zero (S := S1x1) _ hz _ _

/-- The first point adds its block's term to zero. -/
theorem out_A (hc0 : cond0_0 i) (hc1 : ¬cond0_1 i) :
    out0_A_2 c i a1 h1 a2 h2 a3 h3 hc0 hc1 x0 x1 g =
      plus zero (Block.added Search.countFloat (seedWord i) x0 x1) := by
  unfold out0_A_2
  rw [View.read_writes_eq_canon _ _ _ (cover0_A_2 c i a1 h1 a2 h2 a3 h3 hc0 hc1 x0 x1 g)]
  unfold kernelRun0_A
  dsimp only
  rw [View.canon_cons_unit_zero (S := S1x1) hz, readBack_A]
  trans plus (shapeCast S1x1 zero shapeCasts_S1x1_S1x1)
    (Block.added Search.countFloat (seedWord i) (load a1 h1 x0) (load a2 h2 x1))
  · sl_kernel_rfl
  · rw [load_eq, load_eq, plus_cast]

/-- The sum that the last point stores, read back. -/
theorem readBack_C : kernelRun0_C.sl.v1112 c i a1 h1 a2 h2 a3 h3 x0 x1 xo2 =
    plus xo2 (Block.added Search.countFloat (seedWord i) x0 x1) := by
  unfold kernelRun0_C.sl.v1112 kernelRun0_C.sl.H2_1
  refine (View.readCov_unit_zero (S := S1x1) _ hz _ _).trans ?_
  trans plus (shapeCast S1x1 (loadAcc a3 h3 xo2) shapeCasts_S1x1_S1x1)
    (Block.added Search.countFloat (seedWord i) (load a1 h1 x0) (load a2 h2 x1))
  · sl_kernel_rfl
  · rw [load_eq, load_eq, loadAcc_eq, plus_cast]

/-- The scaling as the reference has it. -/
theorem scaled_eq (x : Vec F S1x1 .f32) : k0_pay2 x = Cert.Reference.Gen.k0_pay3 x :=
  congrArg Cert.Reference.Gen.k0_pay3 (shapeCast_self x shapeCasts_S1x1_S1x1)

/-- The last point adds its block's term and scales the sum. -/
theorem out_C (hc0 : ¬cond0_0 i) (hc1 : cond0_1 i) :
    out0_C_2 c i a1 h1 a2 h2 a3 h3 hc0 hc1 x0 x1 xo2 g =
      Cert.Reference.Gen.k0_pay3 (plus xo2 (Block.added Search.countFloat (seedWord i) x0 x1)) := by
  unfold out0_C_2
  rw [View.read_writes_eq_canon _ _ _ (cover0_C_2 c i a1 h1 a2 h2 a3 h3 hc0 hc1 x0 x1 xo2 g)]
  unfold kernelRun0_C
  dsimp only
  rw [View.canon_cons_unit_zero (S := S1x1) hz, readBack_C, scaled_eq]

end

section
variable (m : (ℓ : Loc nD τ sig) → Buf (Elt F) ℓ)

/-- What the block at a point adds. -/
noncomputable def termAt (c : Dev nD) (t : Fin cfg0.N) : F .f32 :=
  Block.added Search.countFloat (seedWord (grid0.coords t)) (iblk m c 0 t) (iblk m c 1 t)

/-- The grid's one coordinate at a point is the point. -/
theorem coord_eq : ∀ t : Fin cfg0.N, (grid0.coords t 0).val = t.val :=
  (fun t => by
    have ht : t.val < 128 := Nat.lt_of_lt_of_eq t.isLt N_0
    have e : (grid0.coords t 0).val = t.val / 1 % 128 := Pipeline.Grid.coords_val t 0 (by decide) rfl
    omega
   : ∀ t : Fin grid0.N, (grid0.coords t 0).val = t.val)

theorem seedWord_eq (t : Fin cfg0.N) : seedWord (grid0.coords t) = BitVec.ofNat 32 t.val :=
  congrArg (BitVec.ofNat 32) (coord_eq t)

theorem word_toNat (t : Fin cfg0.N) : (BitVec.ofNat 32 (grid0.coords t 0).val).toNat = t.val := by
  have ht : t.val < 128 := Nat.lt_of_lt_of_eq t.isLt N_0
  rw [coord_eq, BitVec.toNat_ofNat]
  omega

/-- The first window's block at a point: 256 rows of the first argument. -/
theorem iblk0_eq (c : Dev nD) (t : Fin cfg0.N) (h : t.val < 128) :
    (iblk m c 0 t : Vec F S256x2048 .f32) = rows (m ((c : Thread nD τ).loc main_arg0)) t.val h := by
  have e := word_toNat t
  funext j
  unfold iblk rows extractStridedSlice
  rw [View.read_apply]
  show V m c main_arg0 _ = m (c.tc.loc main_arg0) _
  unfold V
  congr 1
  funext a
  apply Fin.ext
  match a with
  | ⟨0, _⟩ =>
    show (BitVec.ofNat 32 (grid0.coords t 0).val).toNat * 256 + 1 * (j 0).val = 256 * t.val + (j 0).val
    rw [e]; omega
  | ⟨1, _⟩ => show 0 * 2048 + 1 * (j 1).val = 0 + (j 1).val; omega

/-- The second window's block at a point: 256 rows of the second argument. -/
theorem iblk1_eq (c : Dev nD) (t : Fin cfg0.N) (h : t.val < 128) :
    (iblk m c 1 t : Vec F S256x2048 .f32) = rows (m ((c : Thread nD τ).loc main_arg1)) t.val h := by
  have e := word_toNat t
  funext j
  unfold iblk rows extractStridedSlice
  rw [View.read_apply]
  show V m c main_arg1 _ = m (c.tc.loc main_arg1) _
  unfold V
  congr 1
  funext a
  apply Fin.ext
  match a with
  | ⟨0, _⟩ =>
    show (BitVec.ofNat 32 (grid0.coords t 0).val).toNat * 256 + 1 * (j 0).val = 256 * t.val + (j 0).val
    rw [e]; omega
  | ⟨1, _⟩ => show 0 * 2048 + 1 * (j 1).val = 0 + (j 1).val; omega

theorem termAt_eq (c : Dev nD) (t : Fin cfg0.N) (h : t.val < 128) :
    termAt m c t = Block.added Search.countFloat (BitVec.ofNat 32 t.val)
      (rows (m ((c : Thread nD τ).loc main_arg0)) t.val h) (rows (m ((c : Thread nD τ).loc main_arg1)) t.val h) := by
  unfold termAt
  rw [iblk0_eq m c t h, iblk1_eq m c t h, seedWord_eq]

/-- Before the last point the accumulator holds the sum so far. -/
theorem outsAt_eq (c : Dev nD) : ∀ (n : ℕ) (h : n < cfg0.N) (hn : n < 127), outsAt0 m c n h =
      total Search.countFloat (m ((c : Thread nD τ).loc main_arg0)) (m ((c : Thread nD τ).loc main_arg1)) (n + 1) (by omega)
  | 0, h, _ => by
    rw [outsAt0_A m c ⟨0, h⟩ rfl (by dsimp only; omega), out_A]
    exact congrArg (plus zero) (termAt_eq m c ⟨0, h⟩ (Nat.zero_lt_succ _))
  | n + 1, h, hn => by
    rw [outsAt0_B m c ⟨n + 1, h⟩ (by dsimp only; omega) (by dsimp only; omega), out_B]
    exact congrArg₂ plus (outsAt_eq c n _ (by omega)) (termAt_eq m c ⟨n + 1, h⟩ (by dsimp only; omega))

theorem lastPoint : 127 < cfg0.N := by rw [show cfg0.N = 128 from N_0]; decide

/-- The loss, as the contents of the region's result array. -/
noncomputable abbrev result (c : Dev nD) : Buf (Elt F) ((c : Thread nD τ).loc main_v0) :=
  loss Search.countFloat (m ((c : Thread nD τ).loc main_arg0)) (m ((c : Thread nD τ).loc main_arg1))

/-- After the last point it holds the loss. -/
theorem outsAt_last (c : Dev nD) : outsAt0 m c 127 lastPoint = result m c := by
  rw [outsAt0_C m c ⟨127, lastPoint⟩ (by decide) (by decide), out_C]
  exact congrArg Cert.Reference.Gen.k0_pay3
    (congrArg₂ plus (outsAt_eq m c 126 _ (by decide)) (termAt_eq m c ⟨127, lastPoint⟩ (by decide)))

/-- The one write-back, at the last point, writes the loss. -/
theorem flushed_eq (c : Dev nD) (t : Fin cfg0.N) (hf : (cfg0.win 2).flush t = true) :
    (dats m 0 c).flushed 2 t = ((cfg0.win 2).blk t).view.read (Elt F) (result m c) := by
  have hN : cfg0.N = 128 := N_0
  have ht : t.val = 127 := by have := (flush0_2 t).mp hf; have := t.isLt; omega
  obtain rfl : t = ⟨127, lastPoint⟩ := Fin.ext ht
  show (cfg0.win 2).cut (grid0.coords ⟨127, lastPoint⟩) ((dats m 0 c).after 2 ⟨127, lastPoint⟩) = _
  rw [after0_2, outsAt_last]
  have hz' : (fun a => win0_2.index ⟨127, lastPoint⟩ a * main_v0.ty.shape.size a) = fun _ => 0 :=
    funext fun a => by fin_cases a <;> decide
  exact (Memref.read_access_unit_zero (Elt F) main_v0 hz' (fun a => by rw [congrFun hz' a]; simp) (result m c)).symm

/-- So the region's result array ends holding the loss. -/
theorem final_o (c : Dev nD) : (dats m 0 c).arrAt 2 cfg0.N = result m c :=
  (dats m 0 c).arrAt_eq_of_cover 2 (result m c) (flushed_eq m c) fun i =>
    ⟨⟨127, lastPoint⟩, (flush0_2 ⟨127, lastPoint⟩).mpr rfl, by
      show i ∈ ((View.whole main_v0).slice (win0_2.rect ⟨127, lastPoint⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨127, lastPoint⟩ 0 * win0_2.size 0 ≤ (i 0 : Nat) ∧ (i 0 : Nat) < win0_2.index ⟨127, lastPoint⟩ 0 * win0_2.size 0 + win0_2.xsize (grid0.coords ⟨127, lastPoint⟩) 0
        rw [show win0_2.index ⟨127, lastPoint⟩ 0 * win0_2.size 0 = 0 from by decide +kernel,
          show win0_2.xsize (grid0.coords ⟨127, lastPoint⟩) 0 = 1 from by decide +kernel]; omega
      | ⟨1, _⟩ =>
        show win0_2.index ⟨127, lastPoint⟩ 1 * win0_2.size 1 ≤ (i 1 : Nat) ∧ (i 1 : Nat) < win0_2.index ⟨127, lastPoint⟩ 1 * win0_2.size 1 + win0_2.xsize (grid0.coords ⟨127, lastPoint⟩) 1
        rw [show win0_2.index ⟨127, lastPoint⟩ 1 * win0_2.size 1 = 0 from by decide +kernel,
          show win0_2.xsize (grid0.coords ⟨127, lastPoint⟩) 1 = 1 from by decide +kernel]; omega⟩

/-- The kernel's run: the loss, reshaped, in its result, and its arguments unchanged. -/
theorem run (ρ : Dev nD → PrngReg) :
    θ_run defs (onTc (τ := τ) (main (F := F))) ⟨m, fun _ => 0, ρ⟩ fun r => ∀ c : Dev nD,
      r.2.mem ((c : Thread nD τ).loc main_v1) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_⟩)
    (θ_run_and (run_main m ρ) (unchanged m ρ))
  · refine (((h.1 c).2 main_v1 (by decide)).trans ?_)
    unfold Pipeline.afterTail₀
    show StableHlo.after [StableHlo.reshape main_v0 main_v1 (rfl : (.f32 : EltTy) = .f32) shapeCasts_S1x1_S_] _ _ = _
    rw [StableHlo.after_cons, StableHlo.after_nil, StableHlo.reshape_result]
    have e : Pipeline.withArrays (cfgs 0).spec c (V0 m c) (fun w => (dats m 0 c).arrAt w (cfgs 0).N)
        (Proc.tc.devRef main_v0) = result m c :=
      (Pipeline.withArrays_arr spec0 launch0.win.arr_inj c (V0 m c) (fun w => (dats m 0 c).arrAt w (cfgs 0).N) 2).trans
        (final_o m c)
    rw [e]
    rfl
  · exact h.2 c

end

end Cert.Kernel.Value
-- ==== Proof.ReferenceTrip.lean ====
module

public import proofs.«01_k».proof.Proof.Gen.Reference.Frame
public import proofs.«01_k».proof.Proof.Gen.Reference.Loops
public import proofs.«01_k».proof.Proof.Block

/-!
# One trip of the reference's loop

A trip seeds the generator, searches its block's two sets of rows, draws the noise and adds the block's
term to the carried sum.
-/

@[expose] public section

set_option maxRecDepth 16384

namespace Cert.Reference.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference Cert.Reference.Gen Cert.Block

variable {F : FTy → Type} [BitOps F]

local notation "𝕄" => MT nD τ sig Unit (Elt F) ℕ (UR sig nD τ) ℕ

/-- A buffer held whole at its contents. -/
noncomputable abbrev held (c : Dev nD) {s : Shape} {e : EltTy} (a : Memref sig .tc .vmem s e) (f : BufTy.Contents (Elt F) a.view.ty) : sProp 𝕄 :=
  a.view.loc (c : Thread nD τ) ↦[a.view.set]{fullShare} f

/-- What a trip finds and leaves: the four inputs at their contents and the generator at some state. -/
noncomputable abbrev around (c : Dev nD) (arg0 arg1 : Memref sig .tc .vmem S32768x2048 .f32) (arg2 arg3 : Memref sig .tc .vmem S32768x1 .i32)
    (x0 : BufTy.Contents (Elt F) arg0.view.ty) (x1 : BufTy.Contents (Elt F) arg1.view.ty)
    (x2 : BufTy.Contents (Elt F) arg2.view.ty) (x3 : BufTy.Contents (Elt F) arg3.view.ty) : sProp 𝕄 :=
  iprop(held c arg0 x0 ∗ held c arg1 x1 ∗ held c arg2 x2 ∗ held c arg3 x3 ∗ (∃ g, prngReg c g))

/-- The search as the reference runs it: ten trips of a loop. -/
noncomputable def searched (mag : Search.Words) (g : IVec S256x1 32) : Search.State F :=
  Scf.fold (n := k0_t2_loop.trips) (fun _ st => Search.step Search.countInt mag st) (Search.start g)

/-- The entries of a block's rows that get noise: those that reach the `k`-th largest word or the
search's lower word. -/
noncomputable def chosen (s : Vec F S256x2048 .f32) (kth : IVec S256x1 32) : IVec S256x2048 1 :=
  k0_pay18 s kth (searched (F := F) (k0_pay4 s) (k0_pay5 s)).2.1

/-- A trip's rows of an argument. -/
noncomputable abbrev rowsAt (a : Memref sig .tc .vmem S32768x2048 .f32) (x : BufTy.Contents (Elt F) a.view.ty)
    (k : Fin k0_t1_loop.trips) : Vec F S256x2048 .f32 :=
  View.readAt (Elt F) a.view (Rect.unit (s := S32768x2048) (k0_off1 k) S256x2048.size (k0_off1_inb k)).toLoadRect x

/-- A trip's rows of an argument's `k`-th largest words. -/
noncomputable abbrev kthAt (a : Memref sig .tc .vmem S32768x1 .i32) (x : BufTy.Contents (Elt F) a.view.ty)
    (k : Fin k0_t1_loop.trips) : IVec S256x1 32 :=
  View.readAt (Elt F) a.view (Rect.unit (s := S32768x1) (k0_off2 k) S256x1.size (k0_off2_inb k)).toLoadRect x

/-- What a trip adds. -/
noncomputable def adds (w : BitVec 32) (s t : Vec F S256x2048 .f32) (ks kt : IVec S256x1 32) : F .f32 :=
  term w s t (chosen s ks) (chosen t kt)

set_option maxHeartbeats 1000000 in
/-- A trip leaves the inputs as they were and adds its block's term. -/
theorem trip (c : Dev nD) (arg0 : Memref sig .tc .vmem S32768x2048 .f32) (harg0 : arg0.IsWhole) (arg1 : Memref sig .tc .vmem S32768x2048 .f32) (harg1 : arg1.IsWhole)
    (arg2 : Memref sig .tc .vmem S32768x1 .i32) (harg2 : arg2.IsWhole) (arg3 : Memref sig .tc .vmem S32768x1 .i32) (harg3 : arg3.IsWhole)
    (arg4 : Memref sig .tc .vmem S1x1 .f32) (harg4 : arg4.IsWhole)
    (x0 : BufTy.Contents (Elt F) arg0.view.ty) (x1 : BufTy.Contents (Elt F) arg1.view.ty)
    (x2 : BufTy.Contents (Elt F) arg2.view.ty) (x3 : BufTy.Contents (Elt F) arg3.view.ty)
    (k : Fin k0_t1_loop.trips) (acc : FVec F S1x1 .f32) (E : Set ℕ) :
    around c arg0 arg1 arg2 arg3 x0 x1 x2 x3
      ⊢ wp frame (wpE (defs₀ (F := F)) Variants.none c none) E (k0_t1_body (F := F) arg0 harg0 arg1 harg1 arg2 harg2 arg3 harg3 arg4 harg4 k acc)
          (fun acc' => iprop(around c arg0 arg1 arg2 arg3 x0 x1 x2 x3 ∗ ⌜acc' = plus acc (adds (Scf.iv 0#32 1#32 k) (rowsAt arg0 x0 k) (rowsAt arg1 x1 k) (kthAt arg2 x2 k) (kthAt arg3 x3 k))⌝)) := by
  have hk : k.val < 128 := Nat.lt_of_lt_of_le k.isLt (by decide)
  unfold k0_t1_body
  simp only [k0_part7_eq_skeleton]; unfold k0_part7_skel
  simp only [k0_part1_eq_skeleton, k0_part2_eq_skeleton, k0_part3_eq_skeleton, k0_part4_eq_skeleton, k0_part5_eq_skeleton, k0_part6_eq_skeleton]
  iintro ⟨H0, H1, H2, H3, ⟨%g, Hg⟩⟩
  sl_exec
  sl_step
  isplitl [H0 H1 H2 H3 Hg]
  · isplitl [H0]; · iexact H0
    isplitl [H1]; · iexact H1
    isplitl [H2]; · iexact H2
    isplitl [H3]; · iexact H3
    iexists _; iexact Hg
  ipureintro
  sl_kernel_rfl

end Cert.Reference.Value
-- ==== Proof.ReferenceLoop.lean ====
module

public import proofs.«01_k».proof.Proof.ReferenceTrip
public import Idealize.ShloMosaic.Lib.Pipeline.Value
public import Idealize.ShloMosaic.Lib.Claim

/-!
# The reference's loop over the blocks

Before trip `n` the carried sum is that of the first `n` blocks' terms.
-/

@[expose] public section

set_option maxRecDepth 16384

namespace Cert.Reference.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Reference Cert.Reference.Gen Cert.Block

variable {F : FTy → Type} [BitOps F]

local notation "𝕄" => MT nD τ sig Unit (Elt F) ℕ (UR sig nD τ) ℕ

/-- Rows `256 n … 256 n + 255` of a column. -/
def kthRows (x : IVec S32768x1 32) (n : Nat) (h : n < 128) : IVec S256x1 32 :=
  extractStridedSlice S256x1 ![256 * n, 0] x ⟨rfl, fun a => match a with
    | ⟨0, _⟩ => show 256 * n + 256 ≤ 32768 by omega
    | ⟨1, _⟩ => show 0 + 1 ≤ 1 by omega⟩

/-- The sum of the first `n` trips' terms, from zero, in order. -/
noncomputable def summed (x y : Vec F S32768x2048 .f32) (kx ky : IVec S32768x1 32) : Nat → Vec F S1x1 .f32
  | 0 => k0_pay1
  | n + 1 => if h : n < 128 then
      plus (summed x y kx ky n)
        (adds (BitVec.ofNat 32 n) (rows x n h) (rows y n h) (kthRows kx n h) (kthRows ky n h))
    else summed x y kx ky n

theorem summed_succ (x y : Vec F S32768x2048 .f32) (kx ky : IVec S32768x1 32) (n : Nat) (h : n < 128) :
    summed x y kx ky (n + 1) = plus (summed x y kx ky n)
      (adds (BitVec.ofNat 32 n) (rows x n h) (rows y n h) (kthRows kx n h) (kthRows ky n h)) := by
  rw [summed]; exact dif_pos h

theorem slice_congr {s t : Shape} {α : Type} (x : s.Idx → α) {o o' : Fin s.rank → Nat} (e : o = o')
    (h : s.Slices o t) (h' : s.Slices o' t) :
    extractStridedSlice t o x h = extractStridedSlice t o' x h' := by subst e; rfl

theorem rowsAt_eq (a : Memref sig .tc .vmem S32768x2048 .f32) (ha : a.IsWhole) (x : Vec F S32768x2048 .f32)
    (k : Fin k0_t1_loop.trips) (hk : k.val < 128) : rowsAt a (ha.unread x) k = rows x k.val hk := by
  unfold rowsAt rows
  rw [View.readAt_eq_ld, ha.read_unread]
  exact (View.ld_unit x (k0_off1 k) S256x2048.size (k0_off1_inb k)).trans (slice_congr x (k0_off1_eq k) _ _)

theorem kthAt_eq (a : Memref sig .tc .vmem S32768x1 .i32) (ha : a.IsWhole) (x : Vec F S32768x1 .i32)
    (k : Fin k0_t1_loop.trips) (hk : k.val < 128) : kthAt (F := F) a (ha.unread x) k = kthRows x k.val hk := by
  unfold kthAt kthRows
  rw [View.readAt_eq_ld, ha.read_unread]
  exact (View.ld_unit x (k0_off2 k) S256x1.size (k0_off2_inb k)).trans (slice_congr x (k0_off2_eq k) _ _)

theorem iv_word : ∀ k : Fin k0_t1_loop.trips, Scf.iv 0#32 1#32 k = BitVec.ofNat 32 k.val := by decide +kernel

section
variable (c : Dev nD) (arg0 : Memref sig .tc .vmem S32768x2048 .f32) (harg0 : arg0.IsWhole)
    (arg1 : Memref sig .tc .vmem S32768x2048 .f32) (harg1 : arg1.IsWhole)
    (arg2 : Memref sig .tc .vmem S32768x1 .i32) (harg2 : arg2.IsWhole)
    (arg3 : Memref sig .tc .vmem S32768x1 .i32) (harg3 : arg3.IsWhole)
    (arg4 : Memref sig .tc .vmem S1x1 .f32) (harg4 : arg4.IsWhole)

set_option warn.classDefReducibility false in
/-- The loop's invariant. -/
@[sl_loop] noncomputable def blocks (E : Set ℕ) (x y : Vec F S32768x2048 .f32) (kx ky : Vec F S32768x1 .i32) :
    Cert.Reference.Gen.LoopInvTy_k0_t1 (F := F) Unit ℕ (UR sig nD τ) ℕ Variants.none c none E
      arg0 harg0 arg1 harg1 arg2 harg2 arg3 harg3 arg4 harg4 k0_pay1 where
  inv n acc := iprop(around c arg0 arg1 arg2 arg3 (harg0.unread x) (harg1.unread y) (harg2.unread kx) (harg3.unread ky)
    ∗ ⌜acc = summed x y kx ky n⌝)
  step k acc := by
    have hk : k.val < 128 := Nat.lt_of_lt_of_le k.isLt (by decide)
    iintro ⟨H, %hacc⟩
    iapply (wp_wand_r Idealize.ShloMosaic.frame (wpE (defs₀ (F := F)) Variants.none (c : Thread nD τ) none) E)
    isplitl [H]
    · iapply (trip c arg0 harg0 arg1 harg1 arg2 harg2 arg3 harg3 arg4 harg4 (harg0.unread x) (harg1.unread y)
        (harg2.unread kx) (harg3.unread ky) k acc E)
      iexact H
    · iintro %acc' ⟨H, %h⟩
      isplitl [H]; · iexact H
      ipureintro
      rw [h, summed_succ x y kx ky k.val hk, hacc, rowsAt_eq arg0 harg0 x k hk, rowsAt_eq arg1 harg1 y k hk,
        kthAt_eq arg2 harg2 kx k hk, kthAt_eq arg3 harg3 ky k hk, iv_word]

end

end Cert.Reference.Value
-- ==== Proof.ReferenceRun.lean ====
module

public import proofs.«01_k».proof.Proof.ReferenceLoop

/-!
# What the reference leaves in its result

The body runs once on whole arrays: the loop over the blocks, then one store of the scaled sum.
-/

@[expose] public section

set_option maxRecDepth 16384

namespace Cert.Reference.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Reference Cert.Reference.Gen Cert.Block

variable {F : FTy → Type} [BitOps F]

local notation "𝕄" => MT nD τ sig Unit (Elt F) ℕ (UR sig nD τ) ℕ

theorem zeroOffsets : (![0, 0] : Fin 2 → Nat) = fun _ => 0 := funext fun a => by fin_cases a <;> rfl

/-- The loss from both arguments and the two columns of `k`-th largest words. -/
noncomputable def lossWith (x y : Vec F S32768x2048 .f32) (kx ky : Vec F S32768x1 .i32) : Vec F S1x1 .f32 :=
  k0_pay3 (summed x y kx ky 128)

set_option maxHeartbeats 1000000 in
/-- The body, on whole buffers. -/
theorem body (c : Dev nD) (arg0 : Memref sig .tc .vmem S32768x2048 .f32) (harg0 : arg0.IsWhole)
    (arg1 : Memref sig .tc .vmem S32768x2048 .f32) (harg1 : arg1.IsWhole)
    (arg2 : Memref sig .tc .vmem S32768x1 .i32) (harg2 : arg2.IsWhole)
    (arg3 : Memref sig .tc .vmem S32768x1 .i32) (harg3 : arg3.IsWhole)
    (arg4 : Memref sig .tc .vmem S1x1 .f32) (harg4 : arg4.IsWhole)
    (x y : Vec F S32768x2048 .f32) (kx ky : Vec F S32768x1 .i32) (o : Vec F S1x1 .f32) (g : PrngReg)
    (K : PUnit → sProp 𝕄) :
    iprop(owns (c : Thread nD τ) arg0 fullShare x ∗ owns (c : Thread nD τ) arg1 fullShare y
        ∗ owns (c : Thread nD τ) arg2 fullShare kx ∗ owns (c : Thread nD τ) arg3 fullShare ky
        ∗ owns (c : Thread nD τ) arg4 fullShare o ∗ prngReg c g
        ∗ (iprop(owns (c : Thread nD τ) arg0 fullShare x ∗ owns (c : Thread nD τ) arg1 fullShare y
          ∗ owns (c : Thread nD τ) arg2 fullShare kx ∗ owns (c : Thread nD τ) arg3 fullShare ky
          ∗ owns (c : Thread nD τ) arg4 fullShare (lossWith x y kx ky) ∗ (∃ r, prngReg c r)) -∗ K ⟨⟩))
      ⊢ wp frame (wpE (defs₀ (F := F)) Variants.none c none) Set.univ
          (cc0__reference_body arg0 harg0 arg1 harg1 arg2 harg2 arg3 harg3 arg4 harg4) K := by
  simp only [cc0__reference_body_eq_skeleton]; unfold cc0__reference_body_skel
  unfold owns
  iintro ⟨⟨%f0, %hf0, H0⟩, ⟨%f1, %hf1, H1⟩, ⟨%f2, %hf2, H2⟩, ⟨%f3, %hf3, H3⟩, ⟨%f4, %hf4, H4⟩, Hg, Hk⟩
  obtain rfl := harg0.eq_unread hf0; obtain rfl := harg1.eq_unread hf1; obtain rfl := harg2.eq_unread hf2
  obtain rfl := harg3.eq_unread hf3; obtain rfl := harg4.eq_unread hf4
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun i => View.cover_of_tiledL _ S1x1.size (by sl_kernel_rfl) i)]
    exact View.canon_cons_unit_zero (S := S1x1) zeroOffsets _ _ _
  iexists _; iexact Hg

variable (m : (ℓ : Loc nD τ sig) → Buf (Elt F) ℓ) (ρ : Dev nD → PrngReg)

/-- What the body leaves in the result's buffer. -/
noncomputable def left (c : Dev nD) (t : Fin cfg0.N) : Vec F S1x1 .f32 :=
  lossWith (iblk m c 0 t) (iblk m c 1 t) (iblk m c 2 t) (iblk m c 3 t)

/-- The region's proof data: the inputs' buffers at their blocks, the result's at what the body leaves. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ _ := Pipeline.ΦA spec0 c
  q _ := fullShare
  owed _ := 0

theorem arrays (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = left m c t := by dsimp only [dats]

theorem before_0 (c : Dev nD) (t : Fin cfg0.N) (d) : (dats m 0 c).before 0 t d = iblk m c 0 t :=
  before0_0_of m (dats m 0 c) (arrays m c 0) (after_0 m c) t d
theorem before_1 (c : Dev nD) (t : Fin cfg0.N) (d) : (dats m 0 c).before 1 t d = iblk m c 1 t :=
  before0_1_of m (dats m 0 c) (arrays m c 1) (after_1 m c) t d
theorem before_2 (c : Dev nD) (t : Fin cfg0.N) (d) : (dats m 0 c).before 2 t d = iblk m c 2 t :=
  before0_2_of m (dats m 0 c) (arrays m c 2) (after_2 m c) t d
theorem before_3 (c : Dev nD) (t : Fin cfg0.N) (d) : (dats m 0 c).before 3 t d = iblk m c 3 t :=
  before0_3_of m (dats m 0 c) (arrays m c 3) (after_3 m c) t d

/-- The body, as the region calls it. -/
theorem body_obligation (c : Dev nD) :
    BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  refine triple_restated (P' := iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))))
    (Q' := fun _ => iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)))
    ?_ rfl .rfl fun _ => .rfl
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl]; unfold Pipeline.ΦA
  iintro ⟨⟨Hr, ⟨%g, Hg⟩⟩, Ho, ⟨%d0, H0⟩, ⟨%d1, H1⟩, ⟨%d2, H2⟩, ⟨%d3, H3⟩, ⟨%d4, H4⟩⟩
  iapply (body c _ _ _ _ _ _ _ _ _ _ (iblk m c 0 t) (iblk m c 1 t) (iblk m c 2 t) (iblk m c 3 t)
    ((dats m 0 c).before 4 t d4) g _)
  isplitl [H0]; · iexact H0
  isplitl [H1]; · iexact H1
  isplitl [H2]; · iexact H2
  isplitl [H3]; · iexact H3
  isplitl [H4]; · iexact H4
  isplitl [Hg]; · iexact Hg
  iintro ⟨H0, H1, H2, H3, H4, Hg⟩
  isplitl [Hr Hg]
  · isplitl [Hr]; · iexact Hr
    iexact Hg
  isplitl [Ho]; · iexact Ho
  isplitl [H0]; · iexact H0
  isplitl [H1]; · iexact H1
  isplitl [H2]; · iexact H2
  isplitl [H3]; · iexact H3
  iexact H4

-- the launch theorem's implicit arguments are found by unfolding plain definitions in a metavariable's type
set_option backward.isDefEq.respectTransparency.types false in
set_option maxHeartbeats 800000 in
/-- The launch, with every semaphore at zero at the end. -/
theorem launched : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arrays m) (hΦ := fun _ _ => rfl)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (arrays m) ((θ_run defs _ _).mono (fun _ h => h.1) (launched m ρ))

/-- The reference runs to the end, leaving its arguments unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launched m ρ))

end Cert.Reference.Value
-- ==== Proof.ReferenceValue.lean ====
module

public import proofs.«01_k».proof.Proof.ReferenceRun
public import Idealize.ShloMosaic.Lib.StableHlo.Run

/-!
# The reference's result, from its arguments

The host operations before the region find each row's `k`-th largest magnitude and take its word.
-/

@[expose] public section

set_option maxRecDepth 16384

namespace Cert.Reference.Value

open Idealize.ShloMosaic Idealize.ShloMosaic.TcCoe Idealize.SL.Sem
open Idealize.ShloMosaic.Pipeline (Dat)
open Cert.Reference Cert.Reference.Gen Cert.Block

variable {F : FTy → Type} [BitOps F]
variable (m : (ℓ : Loc nD τ sig) → Buf (Elt F) ℓ) (ρ : Dev nD → PrngReg)

/-- Each row's largest 1024 magnitudes, largest first. -/
noncomputable def largest (x : Vec F S32768x2048 .f32) : Vec F S32768x1024 .f32 :=
  (Host.topK S32768x1024 1 (FloatOps.cmpfTotal .gt) (Host.absf x : Vec F S32768x2048 .f32)
    sliceFits_S32768x2048_S32768x1024).1

/-- The word of each row's 1024th largest magnitude. -/
noncomputable def kth (x : Vec F S32768x2048 .f32) : Vec F S32768x1 .i32 :=
  bitcastToInt (extractStridedSlice S32768x1 ![0, 1023] (largest x) slices_S32768x1024_S32768x1_0_1023 :
    Vec F S32768x1 .f32)

theorem V_kth_first (c : Dev nD) : V m c main_v2 = kth (m ((c : Thread nD τ).loc main_arg0)) := by
  show StableHlo.after hostOps0 _ _ = _
  simp (disch := decide) only [hostOps0, StableHlo.after_cons, StableHlo.after_nil, StableHlo.unary_result', StableHlo.unary_result_ne']
  rfl

theorem V_kth_second (c : Dev nD) : V m c main_v5 = kth (m ((c : Thread nD τ).loc main_arg1)) := by
  show StableHlo.after hostOps0 _ _ = _
  simp (disch := decide) only [hostOps0, StableHlo.after_cons, StableHlo.after_nil, StableHlo.unary_result', StableHlo.unary_result_ne']
  rfl

/-- The region's one point. -/
abbrev point : Fin cfg0.N := ⟨0, by decide⟩

theorem block_0 (c : Dev nD) (t : Fin cfg0.N) : iblk m c 0 t = m ((c : Thread nD τ).loc main_arg0) := by
  rw [← V_main_arg0 m c]
  have hz : (fun a => win0_0.index t a * main_arg0.ty.shape.size a) = fun _ => 0 := funext fun a => Nat.zero_mul _
  exact Memref.read_access_unit_zero (Elt F) main_arg0 hz (fun a => by rw [congrFun hz a]; simp) (V m c main_arg0)
theorem block_1 (c : Dev nD) (t : Fin cfg0.N) : iblk m c 1 t = m ((c : Thread nD τ).loc main_arg1) := by
  rw [← V_main_arg1 m c]
  have hz : (fun a => win0_1.index t a * main_arg1.ty.shape.size a) = fun _ => 0 := funext fun a => Nat.zero_mul _
  exact Memref.read_access_unit_zero (Elt F) main_arg1 hz (fun a => by rw [congrFun hz a]; simp) (V m c main_arg1)
theorem block_2 (c : Dev nD) (t : Fin cfg0.N) : iblk m c 2 t = kth (m ((c : Thread nD τ).loc main_arg0)) := by
  rw [← V_kth_first m c]
  have hz : (fun a => win0_2.index t a * main_v2.ty.shape.size a) = fun _ => 0 := funext fun a => Nat.zero_mul _
  exact Memref.read_access_unit_zero (Elt F) main_v2 hz (fun a => by rw [congrFun hz a]; simp) (V m c main_v2)
theorem block_3 (c : Dev nD) (t : Fin cfg0.N) : iblk m c 3 t = kth (m ((c : Thread nD τ).loc main_arg1)) := by
  rw [← V_kth_second m c]
  have hz : (fun a => win0_3.index t a * main_v5.ty.shape.size a) = fun _ => 0 := funext fun a => Nat.zero_mul _
  exact Memref.read_access_unit_zero (Elt F) main_v5 hz (fun a => by rw [congrFun hz a]; simp) (V m c main_v5)

/-- The loss, as the contents of the region's result array. -/
noncomputable abbrev result (c : Dev nD) : Buf (Elt F) ((c : Thread nD τ).loc main_v6) :=
  lossWith (m ((c : Thread nD τ).loc main_arg0)) (m ((c : Thread nD τ).loc main_arg1))
    (kth (m ((c : Thread nD τ).loc main_arg0))) (kth (m ((c : Thread nD τ).loc main_arg1)))

theorem left_eq (c : Dev nD) (t : Fin cfg0.N) : left m c t = result m c := by
  unfold left
  rw [block_0, block_1, block_2, block_3]

theorem flushed_eq (c : Dev nD) (t : Fin cfg0.N) :
    (dats m 0 c).flushed 4 t = ((cfg0.win 4).blk t).view.read (Elt F) (result m c) := by
  show (cfg0.win 4).cut (grid0.coords t) ((dats m 0 c).after 4 t) = _
  rw [after_4, left_eq]
  have hz : (fun a => win0_4.index t a * main_v6.ty.shape.size a) = fun _ => 0 := funext fun a => Nat.zero_mul _
  exact (Memref.read_access_unit_zero (Elt F) main_v6 hz (fun a => by rw [congrFun hz a]; simp) (result m c)).symm

/-- The region's result array ends holding the loss. -/
theorem final (c : Dev nD) : (dats m 0 c).arrAt 4 cfg0.N = result m c :=
  (dats m 0 c).arrAt_eq_of_cover 4 (result m c) (fun t _ => flushed_eq m c t) fun i =>
    ⟨point, flush0_4 point, by
      show i ∈ ((View.whole main_v6).slice (win0_4.rect point)).set
      rw [View.set_slice_whole, Rect.mem_set_unit]
      intro a
      exact ⟨(Nat.zero_mul _).le.trans (Nat.zero_le _), by
        show (i a : Nat) < win0_4.index point a * win0_4.size a + main_v6.ty.shape.size a
        exact Nat.lt_of_lt_of_le (i a).isLt (Nat.le_add_left _ _)⟩⟩

/-- The reference's run: the loss, reshaped, in its result, and its arguments unchanged. -/
theorem run : θ_run defs (onTc (τ := τ) (main (F := F))) ⟨m, fun _ => 0, ρ⟩ fun r => ∀ c : Dev nD,
      r.2.mem ((c : Thread nD τ).loc main_v7) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_⟩)
    (θ_run_and (launched m ρ) (unchanged m ρ))
  · refine (((h.1.1 c).2 main_v7 (by decide)).trans ?_)
    unfold Pipeline.afterTail₀
    show StableHlo.after [StableHlo.reshape main_v6 main_v7 (rfl : (.f32 : EltTy) = .f32) shapeCasts_S1x1_S_] _ _ = _
    rw [StableHlo.after_cons, StableHlo.after_nil, StableHlo.reshape_result]
    have e : Pipeline.withArrays (cfgs 0).spec c (V0 m c) (fun w => (dats m 0 c).arrAt w (cfgs 0).N)
        (Proc.tc.devRef main_v6) = result m c :=
      (Pipeline.withArrays_arr spec0 launch0.win.arr_inj c (V0 m c) (fun w => (dats m 0 c).arrAt w (cfgs 0).N) 4).trans
        (final m c)
    rw [e]
    rfl
  · exact h.2 c

end Cert.Reference.Value
-- ==== Proof.Count.lean ====
module

public import proofs.«01_k».proof.Proof.Block
public import Idealize.ShloMosaic.Lib.NatWords
public import Idealize.ShloMosaic.Lib.NatWordsOrder
public import Idealize.ShloMosaic.Lib.IndicatorCount

/-!
# The two ways of counting agree

A row's count, added up as floats or as integers, is the float of the natural number of words that
reach the bound: that number is far below `2^24`, so no addition rounds.
-/

@[expose] public section

namespace Cert.Search

open Idealize.ShloMosaic Idealize.ShloMosaic.TcCoe Idealize.SL.Sem
open Cert.Reference Cert.Reference.Gen

/-- The places of a row whose word reaches the row's bound. -/
noncomputable def above (mag : Words) (g : IVec S256x1 32) (j : S256.Idx) : Finset S256x2048.Idx :=
  (Bits.reduceFiber reduces_S256x2048_S256 j).filter fun i => reach mag g i = 1#1

theorem card_above_le (mag : Words) (g : IVec S256x1 32) (j : S256.Idx) : (above mag g j).card ≤ 524288 := by
  refine (Finset.card_le_univ _).trans (le_of_eq ?_)
  rw [Shape.card_idx]
  decide

theorem ones_eq (mag : Words) (g : IVec S256x1 32) (j : S256.Idx) :
    (Bits.reduceFiber reduces_S256x2048_S256 j).sum (fun i => (reach mag g i).toNat) = (above mag g j).card := by
  rw [above, Finset.card_filter]
  refine Finset.sum_congr rfl fun i _ => ?_
  have two : ∀ b : BitVec 1, b.toNat = if b = 1#1 then 1 else 0 := by decide
  exact two _

/-- The float of a bit widened to a word is the float of the bit. -/
theorem float_bit : ∀ b : BitVec 1, Bits.natOfF32? (Bits.sitofp32 (b.setWidth 32)) = some b.toNat := by
  intro b
  have small : b.toNat < 2 := b.isLt
  have e : (b.setWidth 32).toNat = b.toNat := by
    rw [BitVec.toNat_setWidth]; exact Nat.mod_eq_of_lt (by omega)
  rw [Bits.sitofp32_eq_f32OfNat _ le_rfl (by rw [e]; omega), e]
  exact Bits.natOfF32?_f32OfNat _ (by omega)

theorem sum_float (mag : Words) (g : IVec S256x1 32) (j : S256.Idx) :
    multiReduction (F := Bits) .add [1] S256 (sitofp .f32 (extui 32 (reach mag g) natLt_1_32)) 0x00000000#32
      reduces_S256x2048_S256 (.inl rfl) rfl j = Bits.f32OfNat (above mag g j).card := by
  rw [← ones_eq]
  refine Bits.multiReduction_add_nat [1] reduces_S256x2048_S256 _ j _ (fun i _ => float_bit _) ?_
  rw [ones_eq]
  exact (card_above_le mag g j).trans_lt (by decide)

theorem sum_int (mag : Words) (g : IVec S256x1 32) (j : S256.Idx) :
    multiReductionI .add [1] S256 (extui 32 (reach mag g) natLt_1_32) 0#32 reduces_S256x2048_S256 rfl j
      = BitVec.ofNat 32 (above mag g j).card := by
  refine (multiReductionI_eq_fold .add _ _ reduces_S256x2048_S256 rfl j).trans ?_
  exact IndicatorCount.fold_addi_setWidth_eq_card (fun i => reach mag g i) _

/-- The place of a row's count among the 256 sums. -/
noncomputable def place (i : S256x1.Idx) : S256.Idx := Shape.reshapeEquiv shapeCasts_S256_S256x1 i

theorem place_val (i : S256x1.Idx) : (place i 0).val = (i 0).val := by
  have e := Shape.rowMajor_reshapeEquiv shapeCasts_S256_S256x1 i
  have one : (i 1).val = 0 := Nat.lt_one_iff.mp (i 1).isLt
  have l : (S256.rowMajor (place i)).val = (place i 0).val := Shape.rowMajor_val_one (place i)
  have r : (S256x1.rowMajor i).val = (i 0).val * 1 + (i 1).val := Shape.rowMajor_val_two i
  have e' : (S256.rowMajor (place i)).val = (S256x1.rowMajor i).val := e
  omega

/-- Each row's count by floats is the float of the number of words that reach the bound. -/
theorem countFloat_apply (mag : Words) (g : IVec S256x1 32) (i : S256x1.Idx) :
    countFloat (F := Bits) mag g i = Bits.f32OfNat (above mag g (place i)).card :=
  sum_float mag g (place i)

/-- Each row's count by integers is the same float. -/
theorem countInt_apply (mag : Words) (g : IVec S256x1 32) (i : S256x1.Idx) :
    countInt (F := Bits) mag g i = Bits.f32OfNat (above mag g (place i)).card := by
  refine (congrArg Bits.sitofp32 (sum_int mag g (place i))).trans ?_
  exact Bits.sitofp32_ofNat ((card_above_le mag g (place i)).trans_lt (by decide))

theorem countFloat_eq : countFloat (F := Bits) = countInt := by
  funext mag g i
  rw [countFloat_apply, countInt_apply]

end Cert.Search
-- ==== Proof.Lower.lean ====
module

public import proofs.«01_k».proof.Proof.Count

/-!
# What the search's lower word is

After any number of steps each row's lower word is zero or is reached by at least 1024 of the row's
2048 words: the search moves it only to a guess that it has just counted.
-/

@[expose] public section

namespace Cert.Search

open Idealize.ShloMosaic Idealize.ShloMosaic.TcCoe Idealize.SL.Sem
open Cert.Reference Cert.Reference.Gen

/-- The columns of row `r` whose word reaches `w`. -/
def reaching (mag : Words) (r : Fin 256) (w : BitVec 32) : Finset (Fin 2048) :=
  Finset.univ.filter fun l => w.sle (mag (Shape.pair (d := ![256, 2048]) r l)) = true

theorem reach_apply (mag : Words) (g : IVec S256x1 32) (i : S256x1.Idx) (k : S256x2048.Idx)
    (h : (k 0).val = (i 0).val) : reach mag g k = BitVec.ofBool ((g i).sle (mag k)) := by
  have e : broadcastTo S256x2048 g broadcasts_S256x1_S256x2048 k = g i := by
    unfold broadcastTo
    refine congrArg g (funext fun a => Fin.ext ?_)
    match a with
    | ⟨0, _⟩ => exact h
    | ⟨1, _⟩ => exact (Nat.lt_one_iff.mp (i 1).isLt).symm
  show IntOp.cmpi .sge (mag k) (broadcastTo S256x2048 g broadcasts_S256x1_S256x2048 k) = _
  rw [e]
  rfl

theorem drop_val (k : S256x2048.Idx) : (reduces_S256x2048_S256.drop k 0).val = (k 0).val :=
  reduces_S256x2048_S256.drop_apply_val_of_eq k 0 0

theorem ofBool_eq_one (b : Bool) : BitVec.ofBool b = 1#1 ↔ b = true := by cases b <;> decide

theorem card_above (mag : Words) (g : IVec S256x1 32) (i : S256x1.Idx) :
    (above mag g (place i)).card = (reaching mag (i 0) (g i)).card := by
  refine Finset.card_nbij' (fun k => k 1) (fun l => Shape.pair (d := ![256, 2048]) (i 0) l) ?_ ?_ ?_ ?_
  · intro k hk
    obtain ⟨hd, hr⟩ := Finset.mem_filter.mp (Finset.mem_coe.mp hk)
    have row : (k 0).val = (i 0).val := by
      rw [← drop_val k, (Finset.mem_filter.mp hd).2, place_val]
    rw [reach_apply mag g i k row, ofBool_eq_one] at hr
    refine Finset.mem_coe.mpr (Finset.mem_filter.mpr ⟨Finset.mem_univ _, ?_⟩)
    have e : Shape.pair (d := ![256, 2048]) (i 0) (k 1) = k := by
      rw [← Fin.ext row]; exact Shape.pair_eta k
    rw [e]; exact hr
  · intro l hl
    have hl' := (Finset.mem_filter.mp (Finset.mem_coe.mp hl)).2
    refine Finset.mem_coe.mpr (Finset.mem_filter.mpr ⟨Finset.mem_filter.mpr ⟨Finset.mem_univ _, ?_⟩, ?_⟩)
    · refine funext fun a => Fin.ext ?_
      rw [Fin.fin_one_eq_zero a, place_val]
      exact drop_val _
    · rw [reach_apply mag g i _ rfl, ofBool_eq_one]; exact hl'
  · intro k hk
    obtain ⟨hd, hr⟩ := Finset.mem_filter.mp (Finset.mem_coe.mp hk)
    have row : (k 0).val = (i 0).val := by
      rw [← drop_val k, (Finset.mem_filter.mp hd).2, place_val]
    show Shape.pair (d := ![256, 2048]) (i 0) (k 1) = k
    rw [← Fin.ext row]; exact Shape.pair_eta k
  · intro l _
    rfl

theorem word_1024 : (0x44800000#32 : Bits .f32) = Bits.f32OfNat 1024 := by
  rw [Bits.f32OfNat_eq 1024 (by decide)]; decide +kernel

/-- A count found to be enough is one of at least 1024 words. -/
theorem enough_count (mag : Words) (g : IVec S256x1 32) (i : S256x1.Idx)
    (h : enough (countInt (F := Bits) mag g) i = 1#1) : 1024 ≤ (reaching mag (i 0) (g i)).card := by
  have small : (above mag g (place i)).card < 2 ^ 24 := (card_above_le mag g (place i)).trans_lt (by decide)
  have h' : Bits.cmpf32 .oge (countInt (F := Bits) mag g i) (0x44800000#32 : Bits .f32) = 1#1 := h
  rw [countInt_apply, word_1024, Bits.cmpf32_oge_nat small (by decide), ofBool_eq_one, decide_eq_true_iff,
    card_above] at h'
  exact h'

/-- Each row's lower word is zero or is reached by at least 1024 words of the row. -/
theorem lower_spec (mag : Words) (g : IVec S256x1 32) (n : Nat) (i : S256x1.Idx) :
    (steps (F := Bits) countInt mag g n).2.1 i = 0#32
      ∨ 1024 ≤ (reaching mag (i 0) ((steps (F := Bits) countInt mag g n).2.1 i)).card := by
  induction n with
  | zero => exact .inl rfl
  | succ n ih =>
    have e : (steps (F := Bits) countInt mag g (n + 1)).2.1 i
        = if enough (countInt (F := Bits) mag (clipped (steps countInt mag g n))) i = 1#1
          then clipped (steps countInt mag g n) i else (steps (F := Bits) countInt mag g n).2.1 i := rfl
    rw [e]
    split
    · exact .inr (enough_count mag _ i ‹_›)
    · exact ih

end Cert.Search
-- ==== Proof.Sorted.lean ====
module

public import Idealize.ShloMosaic.Lib.SortFacts
public import Mathlib.Data.Fintype.Card
public import Mathlib.Order.Interval.Finset.Fin

/-!
# An order statistic of words

Sort words from the largest down, as signed integers. A word reached by more than `k` of them is at
most the one at position `k`.
-/

@[expose] public section

namespace Cert.Sorted

open Idealize.ShloMosaic

/-- A word that more than `k` of the words reach is reached by the word sorted to position `k`. -/
theorem reached {n : Nat} (f : Fin n → BitVec 32) (before : Fin n → Fin n → Bool)
    (hb : ∀ a b, before a b = (f b).slt (f a)) (k : Fin n) (w : BitVec 32)
    (h : k.val < (Finset.univ.filter fun l => w.sle (f l) = true).card) :
    w.sle (f (sortedFrom before k)) = true := by
  by_contra no
  have falls : ∀ p : Fin n, k ≤ p → (f (sortedFrom before p)).toInt < w.toInt := by
    intro p hp
    have low : (f (sortedFrom before k)).toInt < w.toInt := by
      rw [BitVec.sle_iff_toInt_le] at no; omega
    rcases hp.eq_or_lt with rfl | hlt
    · exact low
    · have ni := sortedFrom_noInversion before before
        (fun a b e => by
          rw [hb, BitVec.slt_iff_toInt_lt] at e
          rw [hb, ← Bool.not_eq_true, BitVec.slt_iff_toInt_lt]; omega)
        (fun _ _ e => e)
        (fun a b c e e' => by
          rw [hb, ← Bool.not_eq_true, BitVec.slt_iff_toInt_lt] at e e'
          rw [hb, ← Bool.not_eq_true, BitVec.slt_iff_toInt_lt]; omega)
        k p hlt
      rw [hb, ← Bool.not_eq_true, BitVec.slt_iff_toInt_lt] at ni
      omega
  have le : (Finset.univ.filter fun l => w.sle (f l) = true).card ≤ (Finset.Iio k).card := by
    refine Finset.card_le_card_of_surjOn (sortedFrom before) fun l hl => ?_
    obtain ⟨p, rfl⟩ := sortedFrom_surjective before l
    refine ⟨p, ?_, rfl⟩
    have hw := (Finset.mem_filter.mp (Finset.mem_coe.mp hl)).2
    rw [BitVec.sle_iff_toInt_le] at hw
    refine Finset.mem_coe.mpr (Finset.mem_Iio.mpr (not_le.mp fun hp => ?_))
    have := falls p hp
    omega
  rw [Fin.card_Iio] at le
  omega

end Cert.Sorted
-- ==== Proof.Order.lean ====
module

public import proofs.«01_k».proof.Proof.Lower
public import proofs.«01_k».proof.Proof.Sorted
public import proofs.«01_k».proof.Proof.ReferenceValue
public import Idealize.ShloMosaic.Lib.SortKey

/-!
# The search lets in every one of a row's largest 1024 entries

The reference gives noise to the entries that reach the 1024th largest magnitude's word or the
search's lower word. The lower word never exceeds the former, so the first test decides nothing that
the second does not: the two programs choose the same entries.
-/

@[expose] public section

set_option maxRecDepth 16384

namespace Cert.Order

open Idealize.ShloMosaic Idealize.ShloMosaic.TcCoe Idealize.SL.Sem
open Cert.Reference Cert.Reference.Gen Cert.Block Cert.Search Cert.Reference.Value

variable (x : Vec Bits S32768x2048 .f32)

/-- The words of the magnitudes of one row of the whole argument. -/
def rowWords (r : Fin 32768) (l : Fin 2048) : BitVec 32 :=
  Bits.absf .f32 (x (Shape.pair (d := ![32768, 2048]) r l))

/-- The word of the magnitude at any place, as the host takes it. -/
def rowWordsAt (k : S32768x2048.Idx) : Bits .f32 := FloatOps.hostAbsf (F := Bits) (φ := .f32) (x k)

theorem rowWords_msb (r : Fin 32768) (l : Fin 2048) : (rowWords x r l).msb = false := by
  have e : rowWords x r l = (x (Shape.pair (d := ![32768, 2048]) r l) : BitVec 32) &&& 0x7FFFFFFF#32 := Bits.absf_f32 _
  rw [e, BitVec.msb_and]
  exact Bool.and_false _

/-- Which of two columns the sort of a row puts first. -/
def before (r : Fin 32768) (a b : Fin 2048) : Bool :=
  FloatOps.cmpfTotal (F := Bits) (φ := .f32) .gt (rowWords x r a) (rowWords x r b) == 1#1

theorem before_eq (r : Fin 32768) (a b : Fin 2048) :
    before x r a b = (rowWords x r b).slt (rowWords x r a) := by
  unfold before
  rw [cmpfTotal_f32_eq_cmpi_sortableKey, sortableKey_of_msb_false _ (rowWords_msb x r a),
    sortableKey_of_msb_false _ (rowWords_msb x r b)]
  show (BitVec.ofBool ((rowWords x r b).slt (rowWords x r a)) == 1#1) = _
  cases (rowWords x r b).slt (rowWords x r a) <;> rfl

theorem along_eq (j : S32768x2048.Idx) (r : Fin 32768) (h : j 0 = r) (l : Fin 2048) :
    j.along 1 l = Shape.pair (d := ![32768, 2048]) r l := by
  subst h
  refine funext fun a => ?_
  match a with
  | ⟨0, _⟩ => rfl
  | ⟨1, _⟩ => rfl

/-- Row `256 n + i` of the whole argument. -/
def row (n : Nat) (h : n < 128) (i : Fin 256) : Fin 32768 := ⟨256 * n + i.val, by omega⟩

/-- A place of the cut array, as a place of the array that was cut. -/
def uncut {s t : Shape} (h : s.Slices (fun _ => 0) t) (q : t.Idx) : s.Idx := fun a =>
  ⟨0 + (q (a.cast h.1.symm)).val, Nat.lt_of_lt_of_le (Nat.add_lt_add_left (q _).isLt _) (h.2 a)⟩

/-- The values of the `k` greatest: each is taken from where the sort of its line puts it. -/
theorem topK_values {s t : Shape} {α : Type} (a : Fin s.rank) (gt : α → α → BitVec 1) (v : s.Idx → α)
    (h : s.Slices (fun _ => 0) t) (q : t.Idx) :
    (Host.topK t a.val gt v h).1 q = v ((uncut h q).along a (sortedFrom (fun k k' =>
      gt (v ((uncut h q).along a k)) (v ((uncut h q).along a k')) == 1#1) (uncut h q a))) := by
  unfold Host.topK Host.sort2
  simp only [dif_pos a.isLt]
  rfl

/-- A row's sorted magnitudes at column 1023. -/
theorem largest_apply (q : S32768x1024.Idx) (r : Fin 32768) (hr : (q 0).val = r.val) (hc : (q 1).val = 1023) :
    largest x q = rowWords x r (sortedFrom (before x r) ⟨1023, by decide⟩) := by
  have key : ∀ j : S32768x2048.Idx, (j 0).val = r.val → (j 1).val = 1023 →
      rowWordsAt x (j.along 1 (sortedFrom (fun k k' =>
        FloatOps.cmpfTotal (F := Bits) (φ := .f32) .gt (rowWordsAt x (j.along 1 k)) (rowWordsAt x (j.along 1 k')) == 1#1) (j 1)))
      = rowWords x r (sortedFrom (before x r) ⟨1023, by decide⟩) := by
    intro j hj hc
    have hc' : j 1 = (⟨1023, by decide⟩ : Fin 2048) := Fin.ext hc
    have w : ∀ l : Fin 2048, rowWordsAt x (j.along 1 l) = rowWords x r l := fun l =>
      congrArg (rowWordsAt x) (along_eq j r (Fin.ext hj) l)
    have e : (fun k k' : Fin 2048 => FloatOps.cmpfTotal (F := Bits) (φ := .f32) .gt (rowWordsAt x (j.along 1 k))
        (rowWordsAt x (j.along 1 k')) == 1#1) = before x r :=
      funext fun k => funext fun k' =>
        congrArg₂ (fun a b => FloatOps.cmpfTotal (F := Bits) (φ := .f32) .gt a b == 1#1) (w k) (w k')
    refine (w _).trans (congrArg (rowWords x r) ?_)
    exact congr (congrArg (sortedFrom (n := 2048)) e) hc'
  have cut : largest x q = (Host.topK S32768x1024 1 (FloatOps.cmpfTotal (F := Bits) (φ := .f32) .gt)
      (rowWordsAt x) sliceFits_S32768x2048_S32768x1024).1 q := rfl
  refine cut.trans ((topK_values (s := S32768x2048) (t := S32768x1024) 1 _ _ _ q).trans ?_)
  have h0 : (uncut sliceFits_S32768x2048_S32768x1024 q 0).val = r.val := by
    show 0 + (q 0).val = r.val
    omega
  have h1 : (uncut sliceFits_S32768x2048_S32768x1024 q 1).val = 1023 := by
    show 0 + (q 1).val = 1023
    omega
  have k := key (uncut sliceFits_S32768x2048_S32768x1024 q) h0 h1
  exact k

theorem kthRows_apply (n : Nat) (h : n < 128) (i : S256x1.Idx) :
    kthRows (kth x) n h i
      = rowWords x (row n h (i 0)) (sortedFrom (before x (row n h (i 0))) ⟨1023, by decide⟩) := by
  have one : (i 1).val = 0 := Nat.lt_one_iff.mp (i 1).isLt
  have at_0 : ∀ a : Fin 2, ![256 * n, 0] a + (i a).val < ![32768, 1] a := fun a => match a with
    | ⟨0, _⟩ => show 256 * n + (i 0).val < 32768 by have : (i 0).val < 256 := (i 0).isLt; omega
    | ⟨1, _⟩ => show 0 + (i 1).val < 1 by omega
  have at_1 : ∀ a : Fin 2, ![0, 1023] a + (![256 * n, 0] a + (i a).val) < ![32768, 1024] a := fun a => match a with
    | ⟨0, _⟩ => show 0 + (256 * n + (i 0).val) < 32768 by have := at_0 0; simpa using this
    | ⟨1, _⟩ => show 1023 + (0 + (i 1).val) < 1024 by omega
  let q : S32768x1024.Idx := fun a => ⟨![0, 1023] a + (![256 * n, 0] a + (i a).val), at_1 a⟩
  have e : kthRows (kth x) n h i = largest x q := by
    sl_kernel_rfl
  rw [e]
  refine largest_apply x q _ ?_ ?_
  · show 0 + (256 * n + (i 0).val) = 256 * n + (i 0).val
    omega
  · show 1023 + (0 + (i 1).val) = 1023
    omega

/-- A block's words are the words of its rows. -/
theorem words_apply (n : Nat) (h : n < 128) (r : Fin 256) (l : Fin 2048) :
    k0_pay4 (rows x n h) (Shape.pair (d := ![256, 2048]) r l) = rowWords x (row n h r) l := by
  refine congrArg (fun k => Bits.absf .f32 (x k)) (funext fun a => Fin.ext ?_)
  match a with
  | ⟨0, _⟩ => rfl
  | ⟨1, _⟩ => exact Nat.zero_add l.val

/-- The search's lower word never exceeds the 1024th largest word. -/
theorem lower_le (n : Nat) (h : n < 128) (g : IVec S256x1 32) (m : Nat) (i : S256x1.Idx) :
    ((steps (F := Bits) countInt (k0_pay4 (rows x n h)) g m).2.1 i).sle (kthRows (kth x) n h i) = true := by
  rw [kthRows_apply]
  rcases lower_spec (k0_pay4 (rows x n h)) g m i with e | e
  · rw [e, BitVec.sle_iff_toInt_le, BitVec.toInt_zero, BitVec.toInt_eq_toNat_of_msb (rowWords_msb x _ _)]
    exact Int.natCast_nonneg _
  · refine Sorted.reached _ _ (before_eq x _) _ _ (Nat.lt_of_lt_of_le (by decide) (e.trans_eq ?_))
    exact congrArg Finset.card (Finset.filter_congr fun l _ =>
      (congrArg (fun z => BitVec.sle _ z = true) (words_apply x n h (i 0) l)).to_iff)

/-- A loop's trips over a list are as many steps of the search. -/
theorem foldl_steps {ι : Type} (count : Words → IVec S256x1 32 → FVec Bits S256x1 .f32) (mag : Words)
    (g : IVec S256x1 32) (l : List ι) :
    l.foldl (fun st _ => step count mag st) (start g) = steps count mag g l.length := by
  induction l using List.reverseRecOn with
  | nil => rfl
  | append_singleton l a ih =>
    rw [List.foldl_append, ih, List.length_append]
    rfl

/-- The reference's loop takes ten steps. -/
theorem searched_eq (mag : Words) (g : IVec S256x1 32) :
    searched (F := Bits) mag g = steps countInt mag g 10 := by
  unfold searched
  rw [Scf.fold_eq]
  refine (foldl_steps countInt mag g (List.finRange k0_t2_loop.trips)).trans ?_
  rw [List.length_finRange, show k0_t2_loop.trips = 10 by decide]

/-- The entries that the reference chooses in a block are those that the search lets in. -/
theorem chosen_eq (n : Nat) (h : n < 128) :
    chosen (rows x n h) (kthRows (kth x) n h) = inFirst countInt (rows x n h) := by
  have shape : chosen (rows x n h) (kthRows (kth x) n h)
      = ori (reach (k0_pay4 (rows x n h)) (kthRows (kth x) n h))
          (reach (k0_pay4 (rows x n h)) (searched (F := Bits) (k0_pay4 (rows x n h)) (k0_pay5 (rows x n h))).2.1) := by
    unfold chosen k0_pay18
    simp only [shapeCast_self]
    rfl
  rw [shape, searched_eq]
  funext k
  let i : S256x1.Idx := Shape.pair (d := ![256, 1]) (k 0) (0 : Fin 1)
  have low := lower_le x n h (k0_pay5 (rows x n h)) 10 i
  show reach (k0_pay4 (rows x n h)) (kthRows (kth x) n h) k
    ||| reach (k0_pay4 (rows x n h)) (steps (F := Bits) countInt (k0_pay4 (rows x n h)) (k0_pay5 (rows x n h)) 10).2.1 k
    = reach (k0_pay4 (rows x n h)) (steps (F := Bits) countInt (k0_pay4 (rows x n h)) (k0_pay5 (rows x n h)) 10).2.1 k
  rw [reach_apply _ _ i k rfl, reach_apply _ _ i k rfl]
  revert low
  generalize (steps (F := Bits) countInt (k0_pay4 (rows x n h)) (k0_pay5 (rows x n h)) 10).2.1 i = lo
  generalize kthRows (kth x) n h i = top
  generalize (k0_pay4 (rows x n h)) k = w
  intro low
  have through : top.sle w = true → lo.sle w = true := by
    rw [BitVec.sle_iff_toInt_le] at low ⊢
    rw [BitVec.sle_iff_toInt_le]
    exact low.trans
  revert through
  cases top.sle w <;> cases lo.sle w <;> simp

end Cert.Order
-- ==== Proof.Same.lean ====
module

public import proofs.«01_k».proof.Proof.Order

/-!
# The two losses are the same float

Block by block the two programs add the same term, in the same order, from zero.
-/

@[expose] public section

namespace Cert.Order

open Idealize.ShloMosaic Idealize.ShloMosaic.TcCoe Idealize.SL.Sem
open Cert.Reference Cert.Reference.Gen Cert.Block Cert.Search Cert.Reference.Value

theorem summed_eq (x y : Vec Bits S32768x2048 .f32) (n : Nat) (h : n ≤ 128) :
    summed x y (kth x) (kth y) n = total countInt x y n h := by
  induction n with
  | zero => rfl
  | succ n ih =>
    rw [summed_succ x y _ _ n h, ih (Nat.le_of_succ_le h)]
    unfold adds
    rw [chosen_eq, chosen_eq]
    rfl

/-- The reference's loss is the kernel's. -/
theorem lossWith_eq (x y : Vec Bits S32768x2048 .f32) :
    lossWith x y (kth x) (kth y) = loss countFloat x y := by
  unfold lossWith loss
  rw [countFloat_eq, summed_eq x y 128 le_rfl]

end Cert.Order
-- ==== Proof.lean ====
/- The proof of the claims: the two frames, and that kernel and reference end with the same float.
   The runs are in Proof/KernelValue.lean and Proof/ReferenceValue.lean, the mathematics in Proof/Count.lean,
   Proof/Lower.lean, Proof/Sorted.lean, Proof/Order.lean and Proof/Same.lean. -/
module

public import proofs.«01_k».proof.Defs
public import proofs.«01_k».proof.Proof.Gen.Kernel
public import proofs.«01_k».proof.Proof.Gen.Kernel.Frame
public import proofs.«01_k».proof.Proof.Gen.Reference
public import proofs.«01_k».proof.Proof.Gen.Reference.Loops
public import proofs.«01_k».proof.Proof.Gen.Reference.Frame
public import proofs.«01_k».proof.Proof.KernelValue
public import proofs.«01_k».proof.Proof.ReferenceValue
public import proofs.«01_k».proof.Proof.Same

@[expose] public section

noncomputable section

namespace Cert.Proof

open Idealize.ShloMosaic Idealize.ShloMosaic.TcCoe Idealize.SL.Sem

/-- From memories that agree on the arguments, kernel and reference end with the same float. -/
theorem bitexact : bitexact_Kernel_Reference (hKernel := Cert.Kernel.Gen.facts) (hReference := Cert.Reference.Gen.facts) := by
  intro m g m' g' _ agree
  refine ⟨_, Cert.Kernel.Value.run m g, ?_⟩
  refine (θ_run _ _ _).mono (fun r h c => ⟨(h c).1.trans ?_, (h c).2⟩) (Cert.Reference.Value.run m' g')
  refine congrArg (fun v : Vec Bits Cert.Reference.S1x1 .f32 => shapeCast Cert.Reference.S_ v (by decide)) ?_
  refine (Cert.Order.lossWith_eq _ _).trans ?_
  exact congrArg₂ (Cert.Block.loss Cert.Search.countFloat) (agree c).1 (agree c).2

theorem claim : Cert.Claim := ⟨Cert.Kernel.Gen.facts, Cert.Reference.Gen.facts,
  fun m ρ _ => Cert.Kernel.Gen.frame m ρ, fun m ρ _ => Cert.Reference.Value.quiescent m ρ, bitexact⟩

end Cert.Proof

end
